-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x32x128 : Shape := ⟨3, ![64, 32, 128]⟩
abbrev S64x32x2 : Shape := ⟨3, ![64, 32, 2]⟩
abbrev S128x8192 : Shape := ⟨2, ![128, 8192]⟩
abbrev S128 : Shape := ⟨1, ![128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S128x8192 : S_.BroadcastsInDim S128x8192 (![] : Fin 0 → Fin S128x8192.rank)
  reducesTo_S128x8192_S_d0_1 : S128x8192.ReducesTo [0, 1] S_

variable [Facts]

def fn {F : FTy → Type} [FloatOps F] (main_arg0 : FVec F S64x32x128 .f32) (main_arg1 : FVec F S64x32x2 .f32) (main_arg2 : FVec F S128x8192 .f32) (main_arg3 : FVec F S128 .f32) : IVec S_ 1 :=
  let main_v0 : FVec F S64x32x128 .f32 := subf main_arg0 main_arg0
  let main_cst : FVec F S_ .f32 := constant S_ .f32 0x00000000#32
  let main_v1 : FVec F S64x32x128 .f32 := broadcastInDim S64x32x128 ![] bcast_S_S64x32x128 main_cst
  let main_v2 : IVec S64x32x128 1 := cmpf .oeq main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S128x8192 .f32 := subf main_arg2 main_arg2
  let main_cst_0 : FVec F S_ .f32 := constant S_ .f32 0x00000000#32
  let main_v5 : FVec F S128x8192 .f32 := broadcastInDim S128x8192 ![] bcast_S_S128x8192 main_cst_0
  let main_v6 : IVec S128x8192 1 := cmpf .oeq main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  main_v8
-- ==== Kernel.lean ====
abbrev S64x32x128 : Shape := ⟨3, ![64, 32, 128]⟩
abbrev S64x32x2 : Shape := ⟨3, ![64, 32, 2]⟩
abbrev S128x8192 : Shape := ⟨2, ![128, 8192]⟩
abbrev S128 : Shape := ⟨1, ![128]⟩
abbrev S2048x128 : Shape := ⟨2, ![2048, 128]⟩
abbrev S64x32x1 : Shape := ⟨3, ![64, 32, 1]⟩
abbrev S64x32 : Shape := ⟨2, ![64, 32]⟩
abbrev S2048 : Shape := ⟨1, ![2048]⟩
abbrev S1x2048 : Shape := ⟨2, ![1, 2048]⟩
abbrev S2048x1 : Shape := ⟨2, ![2048, 1]⟩
abbrev S128x64x128 : Shape := ⟨3, ![128, 64, 128]⟩
abbrev S1x128 : Shape := ⟨2, ![1, 128]⟩
abbrev S128x128 : Shape := ⟨2, ![128, 128]⟩
abbrev S128x1 : Shape := ⟨2, ![128, 1]⟩

abbrev nBuf : Space → Nat
  | .hbm => 22
  | .vmem => 14
  | .smem => 0
  | _ => 0

abbrev bufTy : (tb : Table) → Fin (tcTables nBuf tb) → BufTy
  | .hbm, ⟨0, _⟩ => ⟨S64x32x128, .f32⟩
  | .hbm, ⟨1, _⟩ => ⟨S64x32x2, .f32⟩
  | .hbm, ⟨2, _⟩ => ⟨S128x8192, .f32⟩
  | .hbm, ⟨3, _⟩ => ⟨S128, .f32⟩
  | .hbm, ⟨4, _⟩ => ⟨S2048x128, .f32⟩
  | .hbm, ⟨5, _⟩ => ⟨S64x32x1, .f32⟩
  | .hbm, ⟨6, _⟩ => ⟨S64x32, .f32⟩
  | .hbm, ⟨7, _⟩ => ⟨S2048, .f32⟩
  | .hbm, ⟨8, _⟩ => ⟨S64x32x1, .f32⟩
  | .hbm, ⟨9, _⟩ => ⟨S64x32, .f32⟩
  | .hbm, ⟨10, _⟩ => ⟨S2048, .f32⟩
  | .hbm, ⟨11, _⟩ => ⟨S1x2048, .f32⟩
  | .hbm, ⟨12, _⟩ => ⟨S2048x1, .f32⟩
  | .hbm, ⟨13, _⟩ => ⟨S1x2048, .f32⟩
  | .hbm, ⟨14, _⟩ => ⟨S2048x1, .f32⟩
  | .hbm, ⟨15, _⟩ => ⟨S128x64x128, .f32⟩
  | .hbm, ⟨16, _⟩ => ⟨S128x64x128, .f32⟩
  | .hbm, ⟨17, _⟩ => ⟨S128x8192, .f32⟩
  | .hbm, ⟨18, _⟩ => ⟨S128x8192, .bf16⟩
  | .hbm, ⟨19, _⟩ => ⟨S1x128, .f32⟩
  | .hbm, ⟨20, _⟩ => ⟨S2048x128, .f32⟩
  | .hbm, ⟨21, _⟩ => ⟨S64x32x128, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x1, .f32⟩
  | .local _ .vmem, ⟨5, _⟩ => ⟨S128x1, .f32⟩
  | .local _ .vmem, ⟨6, _⟩ => ⟨S1x128, .f32⟩
  | .local _ .vmem, ⟨7, _⟩ => ⟨S1x128, .f32⟩
  | .local _ .vmem, ⟨8, _⟩ => ⟨S128x1, .f32⟩
  | .local _ .vmem, ⟨9, _⟩ => ⟨S128x1, .f32⟩
  | .local _ .vmem, ⟨10, _⟩ => ⟨S128x8192, .bf16⟩
  | .local _ .vmem, ⟨11, _⟩ => ⟨S1x128, .f32⟩
  | .local _ .vmem, ⟨12, _⟩ => ⟨S128x128, .f32⟩
  | .local _ .vmem, ⟨13, _⟩ => ⟨S128x128, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x32x128 : Shape := ⟨3, ![64, 32, 128]⟩
abbrev S64x32x2 : Shape := ⟨3, ![64, 32, 2]⟩
abbrev S128x8192 : Shape := ⟨2, ![128, 8192]⟩
abbrev S128 : Shape := ⟨1, ![128]⟩
abbrev S64x1x32x2 : Shape := ⟨4, ![64, 1, 32, 2]⟩
abbrev S64x32x1x2 : Shape := ⟨4, ![64, 32, 1, 2]⟩
abbrev S64x32x32x2 : Shape := ⟨4, ![64, 32, 32, 2]⟩
abbrev S64x32x32x1 : Shape := ⟨4, ![64, 32, 32, 1]⟩
abbrev S64x32x32 : Shape := ⟨3, ![64, 32, 32]⟩
abbrev S_ : Shape := ⟨0, ![]⟩
abbrev S1x1x1x64 : Shape := ⟨4, ![1, 1, 1, 64]⟩
abbrev S64x32x32x64 : Shape := ⟨4, ![64, 32, 32, 64]⟩
abbrev S32x32 : Shape := ⟨2, ![32, 32]⟩
abbrev S1x32x32x1 : Shape := ⟨4, ![1, 32, 32, 1]⟩
abbrev S64x32x64x128 : Shape := ⟨4, ![64, 32, 64, 128]⟩
abbrev S64x32x8192 : Shape := ⟨3, ![64, 32, 8192]⟩
abbrev S8192x128 : Shape := ⟨2, ![8192, 128]⟩
abbrev S1x1x128 : Shape := ⟨3, ![1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x32x2, .f32⟩
  | .hbm, ⟨2, _⟩ => ⟨S128x8192, .f32⟩
  | .hbm, ⟨3, _⟩ => ⟨S128, .f32⟩
  | .hbm, ⟨4, _⟩ => ⟨S64x1x32x2, .f32⟩
  | .hbm, ⟨5, _⟩ => ⟨S64x32x1x2, .f32⟩
  | .hbm, ⟨6, _⟩ => ⟨S64x32x32x2, .f32⟩
  | .hbm, ⟨7, _⟩ => ⟨S64x32x32x2, .f32⟩
  | .hbm, ⟨8, _⟩ => ⟨S64x32x32x2, .f32⟩
  | .hbm, ⟨9, _⟩ => ⟨S64x32x32x1, .f32⟩
  | .hbm, ⟨10, _⟩ => ⟨S64x32x32, .f32⟩
  | .hbm, ⟨11, _⟩ => ⟨S_, .f32⟩
  | .hbm, ⟨12, _⟩ => ⟨S64x32x32, .f32⟩
  | .hbm, ⟨13, _⟩ => ⟨S64x32x32, .f32⟩
  | .hbm, ⟨14, _⟩ => ⟨S_, .f32⟩
  | .hbm, ⟨15, _⟩ => ⟨S64x32x32, .f32⟩
  | .hbm, ⟨16, _⟩ => ⟨S64x32x32, .f32⟩
  | .hbm, ⟨17, _⟩ => ⟨S64x32x32, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S64x32x32, .i32⟩
  | .hbm, ⟨22, _⟩ => ⟨S64x32x32, .i32⟩
  | .hbm, ⟨23, _⟩ => ⟨S_, .i32⟩
  | .hbm, ⟨24, _⟩ => ⟨S64x32x32, .i32⟩
  | .hbm, ⟨25, _⟩ => ⟨S64x32x32, .i32⟩
  | .hbm, ⟨26, _⟩ => ⟨S64x32x32x1, .f32⟩
  | .hbm, ⟨27, _⟩ => ⟨S64x32x32, .f32⟩
  | .hbm, ⟨28, _⟩ => ⟨S_, .f32⟩
  | .hbm, ⟨29, _⟩ => ⟨S64x32x32, .f32⟩
  | .hbm, ⟨30, _⟩ => ⟨S64x32x32, .f32⟩
  | .hbm, ⟨31, _⟩ => ⟨S_, .f32⟩
  | .hbm, ⟨32, _⟩ => ⟨S64x32x32, .f32⟩
  | .hbm, ⟨33, _⟩ => ⟨S64x32x32, .f32⟩
  | .hbm, ⟨34, _⟩ => ⟨S64x32x32, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S64x32x32, .i32⟩
  | .hbm, ⟨39, _⟩ => ⟨S64x32x32, .i32⟩
  | .hbm, ⟨40, _⟩ => ⟨S_, .i32⟩
  | .hbm, ⟨41, _⟩ => ⟨S64x32x32, .i32⟩
  | .hbm, ⟨42, _⟩ => ⟨S64x32x32, .i32⟩
  | .hbm, ⟨43, _⟩ => ⟨S_, .i32⟩
  | .hbm, ⟨44, _⟩ => ⟨S64x32x32, .i32⟩
  | .hbm, ⟨45, _⟩ => ⟨S64x32x32, .i32⟩
  | .hbm, ⟨46, _⟩ => ⟨S64x32x32, .i32⟩
  | .hbm, ⟨47, _⟩ => ⟨S64x32x32x1, .i32⟩
  | .hbm, ⟨48, _⟩ => ⟨S1x1x1x64, .i32⟩
  | .hbm, ⟨49, _⟩ => ⟨S64x32x32x64, .i32⟩
  | .hbm, ⟨50, _⟩ => ⟨S64x32x32x64, .i32⟩
  | .hbm, ⟨51, _⟩ => ⟨S64x32x32x64, .i1⟩
  | .hbm, ⟨52, _⟩ => ⟨S64x32x32x64, .f32⟩
  | .hbm, ⟨53, _⟩ => ⟨S32x32, .i32⟩
  | .hbm, ⟨54, _⟩ => ⟨S32x32, .i32⟩
  | .hbm, ⟨55, _⟩ => ⟨S_, .i32⟩
  | .hbm, ⟨56, _⟩ => ⟨S32x32, .i32⟩
  | .hbm, ⟨57, _⟩ => ⟨S32x32, .i32⟩
  | .hbm, ⟨58, _⟩ => ⟨S32x32, .i1⟩
  | .hbm, ⟨59, _⟩ => ⟨S32x32, .f32⟩
  | .hbm, ⟨60, _⟩ => ⟨S_, .f32⟩
  | .hbm, ⟨61, _⟩ => ⟨S32x32, .f32⟩
  | .hbm, ⟨62, _⟩ => ⟨S32x32, .f32⟩
  | .hbm, ⟨63, _⟩ => ⟨S1x32x32x1, .f32⟩
  | .hbm, ⟨64, _⟩ => ⟨S64x32x32x64, .f32⟩
  | .hbm, ⟨65, _⟩ => ⟨S64x32x32x64, .f32⟩
  | .hbm, ⟨66, _⟩ => ⟨S64x32x64x128, .f32⟩
  | .hbm, ⟨67, _⟩ => ⟨S64x32x8192, .f32⟩
  | .hbm, ⟨68, _⟩ => ⟨S8192x128, .f32⟩
  | .hbm, ⟨69, _⟩ => ⟨S64x32x128, .f32⟩
  | .hbm, ⟨70, _⟩ => ⟨S1x1x128, .f32⟩
  | .hbm, ⟨71, _⟩ => ⟨S64x32x128, .f32⟩
  | .hbm, ⟨72, _⟩ => ⟨S64x32x128, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== Proof.Cell.lean ====
/-
  The words the kernel computes inside one block: the grid cell a neighbour falls into, and the test that keeps a
  neighbour only if it belongs to the same scene and is not the agent itself. Nothing here evaluates a cell: the
  reference computes the same word from the same displacement, so the two meet as words.
-/
module

public import proofs.«01_k».proof.Proof.Gen.KernelIdeal.Frame
public import Idealize.ShloMosaic.Lib.ValueIdx
public import Idealize.ShloMosaic.Lib.Pipeline.Value

@[expose] public section

noncomputable section

namespace Cert.Proof.Cell

open Cert.KernelIdeal Cert.KernelIdeal.Gen Idealize.ShloMosaic Idealize.ShloMosaic.ValueIdx

/-- The bin of one displacement: shifted by two, divided by one half, truncated to a word and clamped to 0 … 7. -/
def bin (a : EReal) : BitVec 32 :=
  IntOp.minsi 7#32 (IntOp.maxsi 0#32
    (Ideal.fptosi 32 (Ideal.div (a + Ideal.ofBits .f32 0x40000000#32) (Ideal.ofBits .f32 0x3F000000#32))))

/-- The cell of a displacement `(dx, dy)` in the 8 × 8 grid. -/
def cell (dx dy : EReal) : BitVec 32 := IntOp.addi (IntOp.muli (bin dx) 8#32) (bin dy)

/-- A row of 128 values spread over 128 rows reads the value of its column. -/
theorem spread_row (v : Vec Ideal S1x128 .f32) (i j : Fin 128) :
    broadcastTo S128x128 (shapeCast S1x128 v shapeCasts_S1x128_S1x128) broadcasts_S1x128_S128x128 (ix2 i j) = v (ix2 0 j) := by
  rw [shapeCast_self]
  exact broadcastTo_apply _ _ _ _ (fun a => match a with
    | ⟨0, _⟩ => by simp
    | ⟨1, _⟩ => by simp)

/-- A column of 128 values spread over 128 columns reads the value of its row. -/
theorem spread_col (v : Vec Ideal S128x1 .f32) (i j : Fin 128) :
    broadcastTo S128x128 (shapeCast S128x1 v shapeCasts_S128x1_S128x1) broadcasts_S128x1_S128x128 (ix2 i j) = v (ix2 i 0) := by
  rw [shapeCast_self]
  exact broadcastTo_apply _ _ _ _ (fun a => match a with
    | ⟨0, _⟩ => by simp
    | ⟨1, _⟩ => by simp)

/-- The word the block computes for the pair `(i, j)` before masking is the cell of `j`'s displacement from `i`. -/
theorem cells_apply (xr : Vec Ideal S1x128 .f32) (xc : Vec Ideal S128x1 .f32) (yr : Vec Ideal S1x128 .f32) (yc : Vec Ideal S128x1 .f32)
    (i j : Fin 128) :
    k0_pay2 xr xc yr yc (ix2 i j) = cell (xr (ix2 0 j) - xc (ix2 i 0)) (yr (ix2 0 j) - yc (ix2 i 0)) := by
  rw [← spread_row xr i j, ← spread_col xc i j, ← spread_row yr i j, ← spread_col yc i j]
  rfl

/-- The word test on two positions of the block, as the kernel computes it: equal quotients by 32, rounded down, and
    different positions. -/
def keep (r s : BitVec 32) : BitVec 1 :=
  let sgn (v : BitVec 32) : BitVec 32 := IntOp.subi ((IntOp.cmpi .sgt v 0#32).setWidth 32) ((IntOp.cmpi .slt v 0#32).setWidth 32)
  let q (v : BitVec 32) : BitVec 32 :=
    Scalar.select (IntOp.andi (IntOp.cmpi .ne (sgn v) (sgn 32#32)) (IntOp.cmpi .ne (IntOp.remsi .vector v 32#32) 0#32))
      (IntOp.subi (IntOp.divsi .vector v 32#32) 1#32) (IntOp.divsi .vector v 32#32)
  IntOp.andi (IntOp.cmpi .eq (q r) (q s)) (IntOp.cmpi .ne r s)

/-- The quotient of a position below 128 by 32, rounded down, as the kernel's chain of word operations gives it. -/
theorem keep_eq : ∀ r s : Fin 128, keep (BitVec.ofNat 32 r.val) (BitVec.ofNat 32 s.val)
    = BitVec.ofBool (decide (r.val / 32 = s.val / 32 ∧ r ≠ s)) := by
  decide +kernel

/-- The masked cell of a block: the cell of the pair where the two rows are different agents of one scene, and the
    all-ones word, which is no cell, elsewhere. -/
theorem masked_apply (x0 : Vec Ideal S128x128 .f32) (x1 : Vec Ideal S1x128 .f32) (x2 : Vec Ideal S128x1 .f32) (x3 : Vec Ideal S1x128 .f32)
    (x4 : Vec Ideal S128x1 .f32) (x5 : Vec Ideal S128x8192 .bf16) (x6 : Vec Ideal S1x128 .f32) (i j : Fin 128) :
    k0_pay36 x0 x1 x2 x3 x4 x5 x6 (ix2 i j)
      = if i.val / 32 = j.val / 32 ∧ i ≠ j then cell (x1 (ix2 0 j) - x2 (ix2 i 0)) (x3 (ix2 0 j) - x4 (ix2 i 0)) else 4294967295#32 := by
  have hz : (![0, 0] : Fin 2 → Nat) = fun _ => 0 := funext fun a => by fin_cases a <;> rfl
  have h : k0_pay36 x0 x1 x2 x3 x4 x5 x6 (ix2 i j)
      = Scalar.select (keep (BitVec.ofNat 32 i.val) (BitVec.ofNat 32 j.val)) (k0_pay2 x1 x2 x3 x4 (ix2 i j)) 4294967295#32 := by
    have h37 : k0_pay28 x0 x1 x2 x3 x4 x5 x6 (ix2 i j) = BitVec.ofNat 32 i.val := iota_single_apply ..
    have h38 : k0_pay29 x0 x1 x2 x3 x4 x5 x6 (ix2 i j) = BitVec.ofNat 32 j.val := iota_single_apply ..
    rw [← h37, ← h38]
    unfold k0_pay36 k0_pay31 k0_pay32 k0_pay33 k0_pay34 k0_pay35
    rw [View.ld_unit_zero hz, View.ld_unit_zero hz, View.ld_unit_zero hz, View.ld_unit_zero hz]
    rfl
  rw [h, keep_eq, cells_apply]
  by_cases hc : i.val / 32 = j.val / 32 ∧ i ≠ j
  · rw [if_pos hc, decide_eq_true hc]; rfl
  · rw [if_neg hc, decide_eq_false hc]; rfl

end Cert.Proof.Cell

end
-- ==== Proof.Block.lean ====
/-
  What one grid point writes: its block of 128 rows, read at an index. Each of the 64 cells contributes one product of
  an indicator matrix — does neighbour `J` of row `r` fall into this cell — by the cell's 128 columns of the projected
  hidden states; the bias is added last.
-/
module

public import proofs.«01_k».proof.Proof.Cell
public import Idealize.ShloMosaic.Lib.MatmulPlain
public import Idealize.ShloMosaic.PureOps.Ideal.Laws

@[expose] public section

noncomputable section

namespace Cert.Proof.Block

open Cert.KernelIdeal Cert.KernelIdeal.Gen Idealize.ShloMosaic Idealize.ShloMosaic.ValueIdx
open scoped BigOperators

/-- The word of `+0.0` is zero. -/
theorem ofBits_zero : Ideal.ofBits .f32 0x00000000#32 = 0 := by simp [Ideal.ofBits, Ideal.ieee]

/-- One if the two words are equal, zero otherwise. -/
def ind (a b : BitVec 32) : EReal := if a = b then 1 else 0

/-- The kernel's way from an equality test to a float — a one-bit word, widened, read as an integer — is the indicator. -/
theorem ind_word (a b : BitVec 32) : (FloatOps.sitofp .f32 ((IntOp.cmpi .eq a b).setWidth 32) : Ideal .f32) = ind a b := by
  show (((((BitVec.ofBool (a == b)).setWidth 32).toInt : ℝ) : EReal)) = ind a b
  by_cases h : a = b
  · rw [ind, if_pos h, beq_iff_eq.mpr h]; simp
  · rw [ind, if_neg h, beq_eq_false_iff_ne.mpr h]; simp

/-- The projected states `u` at row `J` and column `n`, zero past the last column. -/
def col (u : FVec Ideal S128x8192 .f32) (J : Fin 128) (n : ℕ) : EReal := if h : n < 8192 then u (ix2 J ⟨n, h⟩) else 0

/-- One cell's contribution at row `r` and column `c`: over the block's rows `J`, the indicator that the pair `(r, J)`
    falls into the cell `w`, times the projected state of `J` in the column `c` of the cell's 128 columns from `o` on. -/
def term (v : IVec S128x128 32) (u : FVec Ideal S128x8192 .f32) (w : BitVec 32) (o : ℕ) (r c : Fin 128) : EReal :=
  ∑ J : Fin 128, ind (v (ix2 r J)) w * col u J (o + c.val)

/-- A product of the kernel, read at an index, is one cell's contribution. -/
theorem term_apply (v : IVec S128x128 32) (u : FVec Ideal S128x8192 .f32) (w : BitVec 32) (o : ℕ)
    (h : S128x8192.Slices ![0, o] S128x128) (r c : Fin 128) :
    matmul dot_S128x128_S128x128_S128x128_1_0_0_1_n_n none
      (sitofp (F := Ideal) .f32 (extui 32 (cmpi .eq v (broadcast S128x128 w)) natLt_1_32))
      (extractStridedSlice S128x128 ![0, o] u h) (constant S128x128 .f32 0x00000000#32) (ix2 r c) = term v u w o r c := by
  have hb : o + 128 ≤ 8192 := h.2 1
  refine (Ideal.matmul_plain_apply (M := 128) (K := 128) (N := 128) none _ _ _ r c).trans ?_
  rw [constant_apply, ofBits_zero, zero_add]
  refine Finset.sum_congr rfl fun J _ => ?_
  have hc : c.val < 128 := c.isLt
  have e : extractStridedSlice S128x128 ![0, o] u h (ix2 J c) = col u J (o + c.val) := by
    rw [col, dif_pos (show o + c.val < 8192 by omega)]
    exact extractStridedSlice_apply _ _ h _ _ (fun a => match a with
      | ⟨0, _⟩ => by simp
      | ⟨1, _⟩ => by simp)
  rw [e, sitofp_apply, extui_apply]
  exact congrArg (· * _) (ind_word _ _)

/-- The projected states of a block: the product of the block's hidden states by the rearranged weights. -/
theorem proj_apply (x0 : Vec Ideal S128x128 .f32) (x1 : Vec Ideal S1x128 .f32) (x2 : Vec Ideal S128x1 .f32) (x3 : Vec Ideal S1x128 .f32)
    (x4 : Vec Ideal S128x1 .f32) (x5 : Vec Ideal S128x8192 .bf16) (x6 : Vec Ideal S1x128 .f32) (J : Fin 128) (n : Fin 8192) :
    k0_pay37 x0 x1 x2 x3 x4 x5 x6 (ix2 J n) = ∑ d : Fin 128, x0 (ix2 J d) * x5 (ix2 d n) := by
  have hz : (![0, 0] : Fin 2 → Nat) = fun _ => 0 := funext fun a => by fin_cases a <;> rfl
  unfold k0_pay37 k0_pay30 k0_pay8 k0_pay1
  rw [View.ld_unit_zero hz, View.ld_unit_zero hz]
  simp only [shapeCast_self]
  refine (Ideal.matmul_plain_apply (M := 128) (K := 128) (N := 8192) none _ _ _ J n).trans ?_
  rw [constant_apply, ofBits_zero, zero_add]
  rfl

/-- A row of 128 values spread over 128 rows reads the value of its column. -/
theorem bias_apply (v : Vec Ideal S1x128 .f32) (r c : Fin 128) :
    broadcastTo S128x128 v broadcasts_S1x128_S128x128 (ix2 r c) = v (ix2 0 c) := by
  rw [← Cell.spread_row v r c, shapeCast_self]

set_option maxHeartbeats 4000000 in
set_option maxRecDepth 4096 in
/-- The block one grid point writes, at row `r` and column `c`: the 64 cells' contributions and the bias. -/
theorem out_apply (x0 : Vec Ideal S128x128 .f32) (x1 : Vec Ideal S1x128 .f32) (x2 : Vec Ideal S128x1 .f32) (x3 : Vec Ideal S1x128 .f32)
    (x4 : Vec Ideal S128x1 .f32) (x5 : Vec Ideal S128x8192 .bf16) (x6 : Vec Ideal S1x128 .f32) (r c : Fin 128) :
    out0_7 x0 x1 x2 x3 x4 x5 x6 (ix2 r c)
      = (∑ g ∈ Finset.range 64, term (k0_pay36 x0 x1 x2 x3 x4 x5 x6) (k0_pay37 x0 x1 x2 x3 x4 x5 x6)
          (BitVec.ofNat 32 g) (128 * g) r c) + x6 (ix2 0 c) := by
  have hz : (![0, 0] : Fin 2 → Nat) = fun _ => 0 := funext fun a => by fin_cases a <;> rfl
  have hv : k0_pay7 (k0_pay31 x0 x1 x2 x3 x4 x5 x6) (k0_pay28 x0 x1 x2 x3 x4 x5 x6) (k0_pay29 x0 x1 x2 x3 x4 x5 x6)
      (k0_pay32 x0 x1 x2 x3 x4 x5 x6) (k0_pay33 x0 x1 x2 x3 x4 x5 x6) (k0_pay34 x0 x1 x2 x3 x4 x5 x6)
      (k0_pay35 x0 x1 x2 x3 x4 x5 x6) = k0_pay36 x0 x1 x2 x3 x4 x5 x6 := rfl
  have hu : k0_pay8 (k0_pay30 x0 x1 x2 x3 x4 x5 x6) (View.ld x5 r0_3) = k0_pay37 x0 x1 x2 x3 x4 x5 x6 := rfl
  unfold out0_7
  rw [View.canon_unit_zero hz, View.ld_unit_zero hz _ x6]
  unfold k0_pay9 k0_pay10
  rw [hv, hu]
  generalize k0_pay36 x0 x1 x2 x3 x4 x5 x6 = v
  generalize k0_pay37 x0 x1 x2 x3 x4 x5 x6 = u
  simp only [k0_pay11, k0_pay12, k0_pay13, k0_pay14, k0_pay15, k0_pay16, k0_pay17, k0_pay18, k0_pay19, k0_pay20, k0_pay21,
    k0_pay22, k0_pay23, k0_pay24, k0_pay25, k0_pay26, k0_pay27, addf_apply, term_apply, shapeCast_self, broadcast_apply]
  simp only [Finset.sum_range_succ, Finset.sum_range_zero, Nat.reduceMul]
  refine congrArg₂ (· + ·) ?_ (bias_apply x6 r c)
  rw [show (Scalar.ofBits .f32 0x00000000#32 : Ideal .f32) = 0 from ofBits_zero]

end Cert.Proof.Block

end
-- ==== Proof.Prefix.lean ====
/-
  What the kernel's input arrays hold when its grid starts, element by element, in terms of the program's arguments. The
  scenes' pedestrians are laid out as 2048 rows, 32 of each scene; the weights are laid out so that the 64 cells' blocks
  of 128 columns stand side by side.
-/
module

public import proofs.«01_k».proof.Proof.Gen.KernelIdeal.Frame
public import Idealize.ShloMosaic.Lib.Pipeline.Value
public import Idealize.ShloMosaic.Lib.ValueIdx

@[expose] public section

noncomputable section

namespace Cert.Proof.Prefix

open Cert.KernelIdeal Cert.KernelIdeal.Gen Idealize.ShloMosaic Idealize.ShloMosaic.ValueIdx
open Idealize.ShloMosaic.TcCoe

variable (m : (ℓ : Loc nD τ sig) → Buf (Elt Ideal) ℓ) (c : Dev nD)

/-- The scene of row `R`. -/
def scene (R : Fin 2048) : Fin 64 := ⟨R.val / 32, by omega⟩

/-- The pedestrian that row `R` stands for, counted within its scene. -/
def ped (R : Fin 2048) : Fin 32 := ⟨R.val % 32, by omega⟩

/-- One coordinate of the pedestrians' positions, cut out and laid out as 2048 rows. -/
theorem rows_apply (p : S64x32x2.Idx → EReal) (o : ℕ) (ho : o < 2) (h : S64x32x2.Slices ![0, 0, o] S64x32x1) (R : Fin 2048) :
    shapeCast S2048 (shapeCast S64x32 (extractStridedSlice S64x32x1 ![0, 0, o] p h) shapeCasts_S64x32x1_S64x32)
      shapeCasts_S64x32_S2048 (ix1 R) = p (ix3 (scene R) (ped R) ⟨o, ho⟩) := by
  refine (shapeCast_apply _ _ _ (ix2 (scene R) (ped R)) ?_).trans ?_
  · rw [Shape.rowMajor_val_two, Shape.rowMajor_val_one]
    show R.val / 32 * 32 + R.val % 32 = R.val
    omega
  refine (shapeCast_apply _ _ _ (ix3 (scene R) (ped R) 0) ?_).trans ?_
  · rw [Shape.rowMajor_val_three, Shape.rowMajor_val_two]
    show (R.val / 32 * 32 + R.val % 32) * 1 + 0 = R.val / 32 * 32 + R.val % 32
    omega
  exact extractStridedSlice_apply _ _ h _ _ (fun a => match a with
    | ⟨0, _⟩ => by simp
    | ⟨1, _⟩ => by simp
    | ⟨2, _⟩ => by simp)

/-- A column of 2048 elements laid out as one row. -/
theorem as_row (x : S2048.Idx → EReal) (R : Fin 2048) : shapeCast S1x2048 x shapeCasts_S2048_S1x2048 (ix2 0 R) = x (ix1 R) := by
  refine shapeCast_apply _ _ _ _ ?_
  rw [Shape.rowMajor_val_one, Shape.rowMajor_val_two]
  show R.val = 0 * 2048 + R.val
  omega

/-- A column of 2048 elements laid out as a column of one element a row. -/
theorem as_col (x : S2048.Idx → EReal) (R : Fin 2048) : shapeCast S2048x1 x shapeCasts_S2048_S2048x1 (ix2 R 0) = x (ix1 R) := by
  refine shapeCast_apply _ _ _ _ ?_
  rw [Shape.rowMajor_val_one, Shape.rowMajor_val_two]
  show R.val = R.val * 1 + 0
  omega

/-- The row of hidden states of `R` is its pedestrian's. -/
theorem hidden_apply (R : Fin 2048) (d : Fin 128) :
    (V m c main_v0 : S2048x128.Idx → EReal) (ix2 R d)
      = (m ((c : Thread nD τ).loc main_arg0) : S64x32x128.Idx → EReal) (ix3 (scene R) (ped R) d) := by
  have e : (V m c main_v0 : S2048x128.Idx → EReal)
      = shapeCast S2048x128 (m ((c : Thread nD τ).loc main_arg0) : S64x32x128.Idx → EReal) shapeCasts_S64x32x128_S2048x128 := by
    dsimp only [V, V0, hostOps0, List.flatten_cons, List.flatten_nil, List.append_nil, List.cons_append, List.nil_append]
    after_results
    rfl
  rw [e]
  refine shapeCast_apply (s := S64x32x128) _ _ _ _ ?_
  rw [Shape.rowMajor_val_three, Shape.rowMajor_val_two]
  show (R.val / 32 * 32 + R.val % 32) * 128 + d.val = R.val * 128 + d.val
  omega

/-- The first coordinates, as a row: those of the rows' pedestrians. -/
theorem x_row (R : Fin 2048) : (V m c main_v7 : S1x2048.Idx → EReal) (ix2 0 R)
    = (m ((c : Thread nD τ).loc main_arg1) : S64x32x2.Idx → EReal) (ix3 (scene R) (ped R) 0) := by
  dsimp only [V, V0, hostOps0, List.flatten_cons, List.flatten_nil, List.append_nil, List.cons_append, List.nil_append]
  after_results
  exact (as_row _ R).trans (rows_apply _ 0 _ _ R)

/-- The first coordinates, as a column. -/
theorem x_col (R : Fin 2048) : (V m c main_v8 : S2048x1.Idx → EReal) (ix2 R 0)
    = (m ((c : Thread nD τ).loc main_arg1) : S64x32x2.Idx → EReal) (ix3 (scene R) (ped R) 0) := by
  dsimp only [V, V0, hostOps0, List.flatten_cons, List.flatten_nil, List.append_nil, List.cons_append, List.nil_append]
  after_results
  exact (as_col _ R).trans (rows_apply _ 0 _ _ R)

/-- The second coordinates, as a row. -/
theorem y_row (R : Fin 2048) : (V m c main_v9 : S1x2048.Idx → EReal) (ix2 0 R)
    = (m ((c : Thread nD τ).loc main_arg1) : S64x32x2.Idx → EReal) (ix3 (scene R) (ped R) 1) := by
  dsimp only [V, V0, hostOps0, List.flatten_cons, List.flatten_nil, List.append_nil, List.cons_append, List.nil_append]
  after_results
  exact (as_row _ R).trans (rows_apply _ 1 _ _ R)

/-- The second coordinates, as a column. -/
theorem y_col (R : Fin 2048) : (V m c main_v10 : S2048x1.Idx → EReal) (ix2 R 0)
    = (m ((c : Thread nD τ).loc main_arg1) : S64x32x2.Idx → EReal) (ix3 (scene R) (ped R) 1) := by
  dsimp only [V, V0, hostOps0, List.flatten_cons, List.flatten_nil, List.append_nil, List.cons_append, List.nil_append]
  after_results
  exact (as_col _ R).trans (rows_apply _ 1 _ _ R)

/-- The rearrangement of the weights at an index: in the block of cell `g`, at row `d` and column `o`, stands the element
    at row `o` and column `128 g + d`. -/
theorem layout_apply (w : S128x8192.Idx → EReal) (d o : Fin 128) (g : Fin 64) :
    shapeCast S128x8192 (transpose S128x64x128 [2, 1, 0] (shapeCast S128x64x128 w shapeCasts_S128x8192_S128x64x128)
        transposes_S128x64x128_S128x64x128_2_1_0) shapeCasts_S128x64x128_S128x8192 (ix2 d ⟨128 * g.val + o.val, by omega⟩)
      = w (ix2 o ⟨128 * g.val + d.val, by omega⟩) := by
  refine (shapeCast_apply _ _ _ (ix3 d g o) ?_).trans ?_
  · rw [Shape.rowMajor_val_three, Shape.rowMajor_val_two]
    show (d.val * 64 + g.val) * 128 + o.val = d.val * 8192 + (128 * g.val + o.val)
    omega
  refine (transpose_apply _ _ _ _ (ix3 o g d) (fun b => match b with
    | ⟨0, _⟩ => rfl
    | ⟨1, _⟩ => rfl
    | ⟨2, _⟩ => rfl)).trans ?_
  refine shapeCast_apply _ _ _ _ ?_
  rw [Shape.rowMajor_val_three, Shape.rowMajor_val_two]
  show o.val * 8192 + (128 * g.val + d.val) = (o.val * 64 + g.val) * 128 + d.val
  omega

/-- The weights as the kernel has them are the argument's, so rearranged. -/
theorem weight_apply (d o : Fin 128) (g : Fin 64) :
    (V m c main_v14 : S128x8192.Idx → EReal) (ix2 d ⟨128 * g.val + o.val, by omega⟩)
      = (m ((c : Thread nD τ).loc main_arg2) : S128x8192.Idx → EReal) (ix2 o ⟨128 * g.val + d.val, by omega⟩) := by
  refine Eq.trans ?_ (layout_apply (m ((c : Thread nD τ).loc main_arg2) : S128x8192.Idx → EReal) d o g)
  dsimp only [V, V0, hostOps0, List.flatten_cons, List.flatten_nil, List.append_nil, List.cons_append, List.nil_append]
  after_results
  rfl

/-- The bias, as one row. -/
theorem bias_apply (o : Fin 128) : (V m c main_v15 : S1x128.Idx → EReal) (ix2 0 o)
    = (m ((c : Thread nD τ).loc main_arg3) : S128.Idx → EReal) (ix1 o) := by
  dsimp only [V, V0, hostOps0, List.flatten_cons, List.flatten_nil, List.append_nil, List.cons_append, List.nil_append]
  after_results
  refine shapeCast_apply (s := S128) (t := S1x128) (α := EReal) _ shapeCasts_S128_S1x128 _ _ ?_
  rw [Shape.rowMajor_val_one, Shape.rowMajor_val_two]
  show o.val = 0 * 128 + o.val
  omega

end Cert.Proof.Prefix
-- ==== Proof.Array.lean ====
/-
  What the kernel's array holds after the run. Every grid point writes its 128 rows, the points together write all 2048,
  and the result is that array, laid out as 64 scenes of 32 pedestrians.
-/
module

public import proofs.«01_k».proof.Proof.Block
public import proofs.«01_k».proof.Proof.Prefix

@[expose] public section

noncomputable section

namespace Cert.Proof.Array

open Cert.KernelIdeal Cert.KernelIdeal.Gen Idealize.ShloMosaic Idealize.ShloMosaic.ValueIdx
open Idealize.ShloMosaic.TcCoe Idealize.SL.Sem
open Cert.Proof.Prefix Cert.Proof.Block Cert.Proof.Cell
open scoped BigOperators

/-! ## The value -/

/-- The row that stands at place `r` of grid point `t`. -/
def row (t : Fin 16) (r : Fin 128) : Fin 2048 := ⟨128 * t.val + r.val, by omega⟩

/-- The cell of the pair of the block's rows `r` and `J`, or a word that is no cell's number where the two rows are of
    different scenes or the same. -/
def pair (p : S64x32x2.Idx → EReal) (t : Fin 16) (r J : Fin 128) : BitVec 32 :=
  if r.val / 32 = J.val / 32 ∧ r ≠ J then
    cell (p (ix3 (scene (row t J)) (ped (row t J)) 0) - p (ix3 (scene (row t r)) (ped (row t r)) 0))
      (p (ix3 (scene (row t J)) (ped (row t J)) 1) - p (ix3 (scene (row t r)) (ped (row t r)) 1))
  else 4294967295#32

/-- The hidden state of row `J`, projected by the weights of cell `g` onto output `o`. -/
def proj (h : S64x32x128.Idx → EReal) (w : S128x8192.Idx → EReal) (t : Fin 16) (J o : Fin 128) (g : Fin 64) : EReal :=
  ∑ d : Fin 128, h (ix3 (scene (row t J)) (ped (row t J)) d) * w (ix2 o ⟨128 * g.val + d.val, by omega⟩)

/-- What the kernel computes for place `r` of grid point `t` and output `o`. -/
def value (h : S64x32x128.Idx → EReal) (p : S64x32x2.Idx → EReal) (w : S128x8192.Idx → EReal) (b : S128.Idx → EReal)
    (t : Fin 16) (r o : Fin 128) : EReal :=
  (∑ g : Fin 64, ∑ J : Fin 128, ind (pair p t r J) (BitVec.ofNat 32 g.val) * proj h w t J o g) + b (ix1 o)

/-- The same as an array of 2048 rows. -/
def rows (h : S64x32x128.Idx → EReal) (p : S64x32x2.Idx → EReal) (w : S128x8192.Idx → EReal) (b : S128.Idx → EReal) :
    S2048x128.Idx → EReal :=
  fun i => value h p w b ⟨(i 0).val / 128, by have : (i 0).val < 2048 := (i 0).isLt; omega⟩
    ⟨(i 0).val % 128, by omega⟩ (i 1)

/-- The array at an index, its row given as a place of a grid point. -/
theorem rows_at (h : S64x32x128.Idx → EReal) (p : S64x32x2.Idx → EReal) (w : S128x8192.Idx → EReal) (b : S128.Idx → EReal)
    (i : S2048x128.Idx) (t : Fin 16) (r : Fin 128) (o : Fin 128) (h0 : (i 0).val = 128 * t.val + r.val) (h1 : (i 1).val = o.val) :
    rows h p w b i = value h p w b t r o := by
  unfold rows
  refine congr (congr (congrArg _ (Fin.ext ?_)) (Fin.ext ?_)) (Fin.ext h1)
  · show (i 0).val / 128 = t.val; omega
  · show (i 0).val % 128 = r.val; omega

variable (m : (ℓ : Loc nD τ sig) → Buf (Elt Ideal) ℓ) (ρ : Dev nD → PrngReg) (c : Dev nD)

/-- The hidden states the program is given. -/
abbrev hidden : S64x32x128.Idx → EReal := m ((c : Thread nD τ).loc main_arg0)
/-- The positions it is given. -/
abbrev pos : S64x32x2.Idx → EReal := m ((c : Thread nD τ).loc main_arg1)
/-- The weights it is given. -/
abbrev weight : S128x8192.Idx → EReal := m ((c : Thread nD τ).loc main_arg2)
/-- The bias it is given. -/
abbrev bias : S128.Idx → EReal := m ((c : Thread nD τ).loc main_arg3)

/-! ## The blocks -/

/-- A grid point by its number. -/
def pt (t : Fin cfg0.N) : Fin 16 := ⟨t.val, lt_of_lt_of_eq t.isLt N_0⟩

theorem idx0 : ∀ t : Fin cfg0.N, win0_0.index t 0 = t.val ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = t.val := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = t.val ∧ win0_7.index t 1 = 0
    ∧ win0_7.xsize (grid0.coords t) 0 = 128 ∧ win0_7.xsize (grid0.coords t) 1 = 128 := by decide +kernel

/-- The hidden states that grid point `t` reads. -/
theorem block0 (t : Fin cfg0.N) (J d : Fin 128) : (iblk m c 0 t : S128x128.Idx → EReal) (ix2 J d)
    = hidden m c (ix3 (scene (row (pt t) J)) (ped (row (pt t) J)) d) := by
  refine Eq.trans ?_ (hidden_apply m c (row (pt t) J) d)
  show (V m c main_v0 : S2048x128.Idx → EReal) ((win0_0.rect t).emb (ix2 J d)) = _
  refine congrArg _ (funext fun a => Fin.ext ?_)
  match a with
  | ⟨0, _⟩ => rw [win0_0.rect_emb_val]; show win0_0.index t 0 * 128 + J.val = 128 * t.val + J.val; rw [(idx0 t).1]; omega
  | ⟨1, _⟩ => rw [win0_0.rect_emb_val]; show win0_0.index t 1 * 128 + d.val = d.val; rw [(idx0 t).2]; omega

/-- The first coordinates that grid point `t` reads as a row. -/
theorem block1 (t : Fin cfg0.N) (J : Fin 128) : (iblk m c 1 t : S1x128.Idx → EReal) (ix2 0 J) = pos m c (ix3 (scene (row (pt t) J)) (ped (row (pt t) J)) 0) := by
  refine Eq.trans ?_ (x_row m c (row (pt t) J))
  show (V m c main_v7 : _ → EReal) ((win0_1.rect t).emb (ix2 0 J)) = _
  refine congrArg _ (funext fun a => Fin.ext ?_)
  match a with
  | ⟨0, _⟩ => rw [win0_1.rect_emb_val]; show win0_1.index t 0 * 1 + 0 = 0; rw [(idx1 t).1]
  | ⟨1, _⟩ => rw [win0_1.rect_emb_val]; show win0_1.index t 1 * 128 + J.val = 128 * t.val + J.val; rw [(idx1 t).2]; omega

/-- The second coordinates that grid point `t` reads as a row. -/
theorem block3 (t : Fin cfg0.N) (J : Fin 128) : (iblk m c 3 t : S1x128.Idx → EReal) (ix2 0 J) = pos m c (ix3 (scene (row (pt t) J)) (ped (row (pt t) J)) 1) := by
  refine Eq.trans ?_ (y_row m c (row (pt t) J))
  show (V m c main_v9 : _ → EReal) ((win0_3.rect t).emb (ix2 0 J)) = _
  refine congrArg _ (funext fun a => Fin.ext ?_)
  match a with
  | ⟨0, _⟩ => rw [win0_3.rect_emb_val]; show win0_3.index t 0 * 1 + 0 = 0; rw [(idx3 t).1]
  | ⟨1, _⟩ => rw [win0_3.rect_emb_val]; show win0_3.index t 1 * 128 + J.val = 128 * t.val + J.val; rw [(idx3 t).2]; omega

/-- The first coordinates that it reads as a column. -/
theorem block2 (t : Fin cfg0.N) (r : Fin 128) : (iblk m c 2 t : S128x1.Idx → EReal) (ix2 r 0) = pos m c (ix3 (scene (row (pt t) r)) (ped (row (pt t) r)) 0) := by
  refine Eq.trans ?_ (x_col m c (row (pt t) r))
  show (V m c main_v8 : _ → EReal) ((win0_2.rect t).emb (ix2 r 0)) = _
  refine congrArg _ (funext fun a => Fin.ext ?_)
  match a with
  | ⟨0, _⟩ => rw [win0_2.rect_emb_val]; show win0_2.index t 0 * 128 + r.val = 128 * t.val + r.val; rw [(idx2 t).1]; omega
  | ⟨1, _⟩ => rw [win0_2.rect_emb_val]; show win0_2.index t 1 * 1 + 0 = 0; rw [(idx2 t).2]

/-- The second coordinates that it reads as a column. -/
theorem block4 (t : Fin cfg0.N) (r : Fin 128) : (iblk m c 4 t : S128x1.Idx → EReal) (ix2 r 0) = pos m c (ix3 (scene (row (pt t) r)) (ped (row (pt t) r)) 1) := by
  refine Eq.trans ?_ (y_col m c (row (pt t) r))
  show (V m c main_v10 : _ → EReal) ((win0_4.rect t).emb (ix2 r 0)) = _
  refine congrArg _ (funext fun a => Fin.ext ?_)
  match a with
  | ⟨0, _⟩ => rw [win0_4.rect_emb_val]; show win0_4.index t 0 * 128 + r.val = 128 * t.val + r.val; rw [(idx4 t).1]; omega
  | ⟨1, _⟩ => rw [win0_4.rect_emb_val]; show win0_4.index t 1 * 1 + 0 = 0; rw [(idx4 t).2]

/-- The weights, which every grid point reads whole. -/
theorem block5 (t : Fin cfg0.N) (d o : Fin 128) (g : Fin 64) : (iblk m c 5 t : S128x8192.Idx → EReal) (ix2 d ⟨128 * g.val + o.val, by omega⟩) = weight m c (ix2 o ⟨128 * g.val + d.val, by omega⟩) := by
  refine Eq.trans ?_ (weight_apply m c d o g)
  show (V m c main_v14 : _ → EReal) ((win0_5.rect t).emb (ix2 d ⟨128 * g.val + o.val, by omega⟩)) = _
  refine congrArg _ (funext fun a => Fin.ext ?_)
  match a with
  | ⟨0, _⟩ => rw [win0_5.rect_emb_val]; show win0_5.index t 0 * 128 + d.val = d.val; rw [(idx5 t).1]; omega
  | ⟨1, _⟩ => rw [win0_5.rect_emb_val]; show win0_5.index t 1 * 8192 + (128 * g.val + o.val) = 128 * g.val + o.val; rw [(idx5 t).2]; omega

/-- The bias, which every grid point reads whole. -/
theorem block6 (t : Fin cfg0.N) (o : Fin 128) : (iblk m c 6 t : S1x128.Idx → EReal) (ix2 0 o) = bias m c (ix1 o) := by
  refine Eq.trans ?_ (Prefix.bias_apply m c o)
  show (V m c main_v15 : _ → EReal) ((win0_6.rect t).emb (ix2 0 o)) = _
  refine congrArg _ (funext fun a => Fin.ext ?_)
  match a with
  | ⟨0, _⟩ => rw [win0_6.rect_emb_val]; show win0_6.index t 0 * 1 + 0 = 0; rw [(idx6 t).1]
  | ⟨1, _⟩ => rw [win0_6.rect_emb_val]; show win0_6.index t 1 * 128 + o.val = o.val; rw [(idx6 t).2]; omega

/-! ## A grid point's output -/

/-- What grid point `t` leaves in its output block. -/
theorem out_value (t : Fin cfg0.N) (r o : Fin 128) :
    out0_7 (F := Ideal) (iblk m c 0 t) (iblk m c 1 t) (iblk m c 2 t) (iblk m c 3 t) (iblk m c 4 t) (iblk m c 5 t) (iblk m c 6 t)
        (ix2 r o) = value (hidden m c) (pos m c) (weight m c) (bias m c) (pt t) r o := by
  refine (out_apply _ _ _ _ _ _ _ r o).trans ?_
  rw [value, block6 m c t o, Finset.sum_range]
  refine congrArg (· + bias m c (ix1 o)) (Finset.sum_congr rfl fun g _ => ?_)
  unfold term
  refine Finset.sum_congr rfl fun J _ => ?_
  have hg : 128 * g.val + o.val < 8192 := by omega
  rw [col, dif_pos hg]
  refine congrArg₂ (· * ·) (congrArg (ind · _) ?_) ?_
  · refine (masked_apply _ _ _ _ _ _ _ r J).trans ?_
    rw [pair, block1 m c t J, block2 m c t r, block3 m c t J, block4 m c t r]
  · refine (proj_apply _ _ _ _ _ _ _ J _).trans ?_
    unfold proj
    refine Finset.sum_congr rfl fun d _ => ?_
    exact congrArg₂ (· * ·) (block0 m c t J d) (block5 m c t d o g)

/-- What it writes back is its block of the whole array. -/
theorem flushed_eq (t : Fin cfg0.N) :
    (dats m 0 c).flushed 7 t
      = (win0_7.blk t).view.read (Elt Ideal) (rows (hidden m c) (pos m c) (weight m c) (bias m c)) := by
  show (cfg0.win 7).cut (grid0.coords t) ((dats m 0 c).after 7 t) = _
  rw [after0_7]
  funext y
  obtain ⟨r, o, rfl⟩ : ∃ r o : Fin 128, y = ix2 r o := ⟨y 0, y 1, eq_ix2 y⟩
  refine (out_value m c t r o).trans ?_
  show _ = rows _ _ _ _ ((win0_7.rect t).emb (ix2 r o))
  have e0 : ((win0_7.rect t).emb (ix2 r o) 0).val = 128 * t.val + r.val := by
    rw [win0_7.rect_emb_val]; show win0_7.index t 0 * 128 + r.val = _; rw [(idx7 t).1]; omega
  have e1 : ((win0_7.rect t).emb (ix2 r o) 1).val = o.val := by
    rw [win0_7.rect_emb_val]; show win0_7.index t 1 * 128 + o.val = _; rw [(idx7 t).2.1]; omega
  exact (rows_at _ _ _ _ _ (pt t) r o e0 e1).symm

/-- An index of the array is in the block of grid point `t` where its row is one of the point's 128. -/
theorem mem_blk (t : Fin cfg0.N) (i : S2048x128.Idx) :
    i ∈ ((cfg0.win 7).blk t).view.set ↔ t.val * 128 ≤ (i 0 : Nat) ∧ (i 0 : Nat) < t.val * 128 + 128 := by
  show i ∈ ((View.whole main_v16).slice (win0_7.rect t)).set ↔ _
  rw [View.set_slice_whole, Rect.mem_set_unit]
  have h1 : (i 1 : Nat) < 128 := (i 1).isLt
  obtain ⟨e0, e1, e2, e3⟩ := idx7 t
  refine ⟨fun h => ?_, fun h a => ?_⟩
  · have : win0_7.index t 0 * 128 ≤ (i 0 : Nat) ∧ (i 0 : Nat) < win0_7.index t 0 * 128 + win0_7.xsize (grid0.coords t) 0 := h 0
    rw [e0, e2] at this; exact this
  · match a with
    | ⟨0, _⟩ => show win0_7.index t 0 * 128 ≤ (i 0 : Nat) ∧ (i 0 : Nat) < win0_7.index t 0 * 128 + win0_7.xsize (grid0.coords t) 0
                rw [e0, e2]; exact h
    | ⟨1, _⟩ => show win0_7.index t 1 * 128 ≤ (i 1 : Nat) ∧ (i 1 : Nat) < win0_7.index t 1 * 128 + win0_7.xsize (grid0.coords t) 1
                rw [e1, e3]; omega

/-- Every index of the array is written by some grid point. -/
theorem cover (i : S2048x128.Idx) : ∃ t : Fin cfg0.N, (cfg0.win 7).flush t = true ∧ i ∈ ((cfg0.win 7).blk t).view.set := by
  have h0 : (i 0 : Nat) < 2048 := (i 0).isLt
  have hN : cfg0.N = 16 := N_0
  refine ⟨⟨(i 0 : Nat) / 128, by omega⟩, flush0_7 _, ?_⟩
  rw [mem_blk]
  dsimp only
  omega

/-- So the kernel's array ends as the 2048 rows. -/
theorem array_eq : (dats m 0 c).arrAt 7 cfg0.N = rows (hidden m c) (pos m c) (weight m c) (bias m c) :=
  (dats m 0 c).arrAt_eq_of_cover 7 _ (fun t _ => flushed_eq m c t) cover

/-! ## The result -/

/-- The program's result: the rows, laid out by scene and pedestrian. -/
abbrev result : S64x32x128.Idx → EReal :=
  shapeCast S64x32x128 (rows (hidden m c) (pos m c) (weight m c) (bias m c)) shapeCasts_S2048x128_S64x32x128

/-- What the last operation leaves in the result. -/
theorem tail_eq : Pipeline.afterTail₀ cfgs (dats m) 0 (V0 m) [hostOps1] c main_v17 = result m c := by
  unfold Pipeline.afterTail₀
  dsimp only [hostOps1, List.flatten_cons, List.flatten_nil, List.append_nil, List.cons_append, List.nil_append]
  after_results
  refine congrArg (shapeCast S64x32x128 · shapeCasts_S2048x128_S64x32x128) ?_
  exact (Pipeline.withArrays_arr spec0 (by decide) c (V0 m c) (fun w => (dats m 0 c).arrAt w cfg0.N) 7).trans (array_eq m c)

/-- The program's run: the result, and the arguments unchanged. -/
theorem run : θ_run defs (onTc (τ := τ) (main (F := Ideal))) ⟨m, fun _ => 0, ρ⟩ (fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The result at scene `s`, pedestrian `i` and output `o`: four scenes are the rows of one grid point. -/
theorem result_apply (s : Fin 64) (i : Fin 32) (o : Fin 128) : result m c (ix3 s i o)
    = value (hidden m c) (pos m c) (weight m c) (bias m c) ⟨s.val / 4, by omega⟩ ⟨32 * (s.val % 4) + i.val, by omega⟩ o := by
  refine (shapeCast_apply _ _ _ (ix2 ⟨32 * s.val + i.val, by omega⟩ o) ?_).trans ?_
  · rw [Shape.rowMajor_val_three, Shape.rowMajor_val_two]
    show (32 * s.val + i.val) * 128 + o.val = (s.val * 32 + i.val) * 128 + o.val
    omega
  · refine rows_at _ _ _ _ _ ⟨s.val / 4, by omega⟩ ⟨32 * (s.val % 4) + i.val, by omega⟩ o ?_ rfl
    show 32 * s.val + i.val = 128 * (s.val / 4) + (32 * (s.val % 4) + i.val)
    omega

end Cert.Proof.Array
-- ==== Proof.Reference.lean ====
/-
  What the reference computes, element by element: each pedestrian's neighbours are sorted into the 64 cells, the hidden
  states that fall into a cell are added up, and the 64 · 128 sums are multiplied by the weights.
-/
module

public import proofs.«01_k».proof.Proof.Block
public import proofs.«01_k».proof.Proof.Gen.ReferenceIdeal.Read
public import Idealize.ShloMosaic.Lib.IdealHost

@[expose] public section

noncomputable section

namespace Cert.Proof.Reference

open Cert.ReferenceIdeal Cert.ReferenceIdeal.Gen Cert.ReferenceIdeal.Read Idealize.ShloMosaic Idealize.ShloMosaic.ValueIdx
open Cert.Proof.Cell Cert.Proof.Block
open scoped BigOperators

/-- The reference's way from an equality test to a float is the indicator as well. -/
theorem ind_bit (a b : BitVec 32) : (FloatOps.uitofp .f32 (IntOp.cmpi .eq a b) : Ideal .f32) = ind a b := by
  show ((((BitVec.ofBool (a == b)).toNat : ℝ) : EReal)) = ind a b
  by_cases h : a = b
  · rw [ind, if_pos h, beq_iff_eq.mpr h]; simp
  · rw [ind, if_neg h, beq_eq_false_iff_ne.mpr h]; simp

/-- The cell that pedestrian `j` of scene `s` is in, seen from pedestrian `i`. -/
def cellOf (p : S64x32x2.Idx → EReal) (s : Fin 64) (i j : Fin 32) : BitVec 32 :=
  cell (p (ix3 s j 0) - p (ix3 s i 0)) (p (ix3 s j 1) - p (ix3 s i 1))

/-- One if `j` is another pedestrian than `i` and is in cell `g` of `i`'s grid, zero otherwise: as the reference has it,
    a product of two indicators. -/
def hot (p : S64x32x2.Idx → EReal) (s : Fin 64) (i j : Fin 32) (g : ℕ) : EReal :=
  ind (cellOf p s i j) (BitVec.ofNat 32 g) * (1 - ind (BitVec.ofNat 32 i.val) (BitVec.ofNat 32 j.val))

/-- A displacement. -/
theorem rel_apply (p : S64x32x2.Idx → EReal) (s : Fin 64) (i j : Fin 32) (a : Fin 2) :
    val_main_v4 (F := Ideal) p (ix4 s i j a) = p (ix3 s j a) - p (ix3 s i a) := by
  rw [val_main_v4_apply, val_main_v2_apply, val_main_v3_apply, val_main_v0_apply, val_main_v1_apply]
  exact congrArg₂ (fun u v : EReal => u - v)
    (congrArg p (funext fun b => match b with | ⟨0, _⟩ => rfl | ⟨1, _⟩ => rfl | ⟨2, _⟩ => rfl))
    (congrArg p (funext fun b => match b with | ⟨0, _⟩ => rfl | ⟨1, _⟩ => rfl | ⟨2, _⟩ => rfl))

/-- The first coordinate of the cell. -/
theorem bin0_apply (p : S64x32x2.Idx → EReal) (s : Fin 64) (i j : Fin 32) :
    val_main_v12 (F := Ideal) p (ix3 s i j) = bin (p (ix3 s j 0) - p (ix3 s i 0)) := by
  rw [← rel_apply p s i j 0, val_main_v12_apply, val_main_call0_v4_apply, val_main_call0_v3_apply, val_main_call0_v2_apply,
    val_main_call0_v1_apply, val_main_call0_v0_apply, val_main_v11_apply, val_main_v10_apply, val_main_v9_apply,
    val_main_v8_apply, val_main_v7_apply, val_main_v6_apply, val_main_v5_apply]
  refine congrArg (fun u => bin (val_main_v4 (F := Ideal) p u)) (funext fun b => Fin.ext ?_)
  match b with
  | ⟨0, _⟩ => show ((s.val * 32 + i.val) * 32 + j.val) / 1024 = s.val; omega
  | ⟨1, _⟩ => show ((s.val * 32 + i.val) * 32 + j.val) / 32 % 32 = i.val; omega
  | ⟨2, _⟩ => show ((s.val * 32 + i.val) * 32 + j.val) / 1 % 32 = j.val; omega
  | ⟨3, _⟩ => rfl

/-- The second coordinate of the cell. -/
theorem bin1_apply (p : S64x32x2.Idx → EReal) (s : Fin 64) (i j : Fin 32) :
    val_main_v20 (F := Ideal) p (ix3 s i j) = bin (p (ix3 s j 1) - p (ix3 s i 1)) := by
  rw [← rel_apply p s i j 1, val_main_v20_apply, val_main_call1_v4_apply, val_main_call1_v3_apply, val_main_call1_v2_apply,
    val_main_call1_v1_apply, val_main_call1_v0_apply, val_main_v19_apply, val_main_v18_apply, val_main_v17_apply,
    val_main_v16_apply, val_main_v15_apply, val_main_v14_apply, val_main_v13_apply]
  refine congrArg (fun u => bin (val_main_v4 (F := Ideal) p u)) (funext fun b => Fin.ext ?_)
  match b with
  | ⟨0, _⟩ => show ((s.val * 32 + i.val) * 32 + j.val) / 1024 = s.val; omega
  | ⟨1, _⟩ => show ((s.val * 32 + i.val) * 32 + j.val) / 32 % 32 = i.val; omega
  | ⟨2, _⟩ => show ((s.val * 32 + i.val) * 32 + j.val) / 1 % 32 = j.val; omega
  | ⟨3, _⟩ => rfl

/-- The cell. -/
theorem cell_apply (p : S64x32x2.Idx → EReal) (s : Fin 64) (i j : Fin 32) :
    val_main_v23 (F := Ideal) p (ix3 s i j) = cellOf p s i j := by
  rw [val_main_v23_apply, val_main_v22_apply, bin0_apply, bin1_apply, val_main_v21_apply]
  rfl

/-- The indicator that `j` is in cell `g` of `i`'s grid. -/
theorem onehot_apply (p : S64x32x2.Idx → EReal) (s : Fin 64) (i j : Fin 32) (g : Fin 64) :
    val_main_v24 (F := Ideal) p (ix4 s i j g) = ind (cellOf p s i j) (BitVec.ofNat 32 g.val) := by
  rw [val_main_v24_apply, val_main_call2_v4_apply, ind_bit, val_main_call2_v2_apply, val_main_call2_v0_apply,
    val_main_call2_v3_apply, val_main_call2_v1_apply, ← cell_apply]
  exact congrArg (fun u => ind (val_main_v23 (F := Ideal) p u) (BitVec.ofNat 32 g.val))
    (funext fun b => match b with | ⟨0, _⟩ => rfl | ⟨1, _⟩ => rfl | ⟨2, _⟩ => rfl)

/-- The indicator that `j` is another pedestrian than `i`. -/
theorem other_apply (s : Fin 64) (i j : Fin 32) (g : Fin 64) :
    val_main_v34 (F := Ideal) (ix4 s i j g) = 1 - ind (BitVec.ofNat 32 i.val) (BitVec.ofNat 32 j.val) := by
  rw [val_main_v34_apply, val_main_v33_apply, val_main_v32_apply, val_main_v31_apply, val_main_cst_8_apply, val_main_v30_apply,
    val_main_v29_apply, ind_bit, val_main_v28_apply, val_main_v27_apply, val_main_c_7_apply, val_main_v25_apply, val_main_v26_apply]
  refine congrArg₂ (fun u v : EReal => u - v) Ideal.ofBits_one_f32 ?_
  refine congrArg (ind · _) ?_
  exact BitVec.add_zero _

/-- The sums over each cell. -/
theorem grid_apply (h : S64x32x128.Idx → EReal) (p : S64x32x2.Idx → EReal) (s : Fin 64) (i : Fin 32) (g : Fin 64) (d : Fin 128) :
    val_main_v36 (F := Ideal) h p (ix4 s i g d) = ∑ j : Fin 32, hot p s i j g.val * h (ix3 s j d) := by
  rw [val_main_v36_apply]
  refine Finset.sum_congr rfl fun j _ => ?_
  have el : lidx_main_v36 (ix4 s i g d) j = ix4 s i j g :=
    funext fun b => match b with | ⟨0, _⟩ => rfl | ⟨1, _⟩ => rfl | ⟨2, _⟩ => rfl | ⟨3, _⟩ => rfl
  have er : ridx_main_v36 (ix4 s i g d) j = ix3 s j d :=
    funext fun b => match b with | ⟨0, _⟩ => rfl | ⟨1, _⟩ => rfl | ⟨2, _⟩ => rfl
  rw [el, er, val_main_v35_apply, onehot_apply, other_apply]
  rfl

/-- The reference's result. -/
theorem result_apply (h : S64x32x128.Idx → EReal) (p : S64x32x2.Idx → EReal) (w : S128x8192.Idx → EReal) (b : S128.Idx → EReal)
    (s : Fin 64) (i : Fin 32) (o : Fin 128) :
    val_main_v42 (F := Ideal) h p w b (ix3 s i o)
      = (∑ k : Fin 8192, (∑ j : Fin 32, hot p s i j (k.val / 128) * h (ix3 s j ⟨k.val % 128, by omega⟩)) * w (ix2 o k))
        + b (ix1 o) := by
  rw [val_main_v42_apply, val_main_v39_apply, val_main_v41_apply, val_main_v40_apply]
  refine congrArg₂ (fun u v : EReal => u + v) (Finset.sum_congr rfl fun k _ => ?_)
    (congrArg b (funext fun a => match a with | ⟨0, _⟩ => rfl))
  have hk : k.val / 128 < 64 := by omega
  rw [val_main_v37_apply, val_main_v38_apply]
  have el : idx_main_v37 (lidx_main_v39 (ix3 s i o) k) = ix4 s i ⟨k.val / 128, hk⟩ ⟨k.val % 128, by omega⟩ := by
    funext a
    refine Fin.ext ?_
    match a with
    | ⟨0, _⟩ => show ((s.val * 32 + i.val) * 8192 + k.val) / 262144 = s.val; omega
    | ⟨1, _⟩ => show ((s.val * 32 + i.val) * 8192 + k.val) / 8192 % 32 = i.val; omega
    | ⟨2, _⟩ => show ((s.val * 32 + i.val) * 8192 + k.val) / 128 % 64 = k.val / 128; omega
    | ⟨3, _⟩ => show ((s.val * 32 + i.val) * 8192 + k.val) % 128 = k.val % 128; omega
  have er : idx_main_v38 (ridx_main_v39 (ix3 s i o) k) = ix2 o k :=
    funext fun a => match a with | ⟨0, _⟩ => rfl | ⟨1, _⟩ => rfl
  rw [el, er, grid_apply]

end Cert.Proof.Reference
-- ==== Proof.Swap.lean ====
/-
  Two facts about sums that the equation rests on. Over finite extended reals, projecting every neighbour and adding up
  is adding up and projecting the sum; and a sum over a product of two ranges is a sum over both.
-/
module

public import Idealize.ShloMosaic.PureOps.Ideal.Laws

@[expose] public section

noncomputable section

namespace Cert.Proof.Swap

open scoped BigOperators

/-- An extended real that is a real number. -/
def IsReal (x : EReal) : Prop := ∃ r : ℝ, x = (r : EReal)

/-- Only a real number is zero when taken from itself. -/
theorem real_of_sub_self {x : EReal} (h : x - x = 0) : IsReal x := by
  induction x with
  | bot => exact absurd h (by simp [sub_eq_add_neg])
  | top => exact absurd h (by simp [sub_eq_add_neg])
  | coe r => exact ⟨r, rfl⟩

/-- The sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Projecting each of the states `x j` by the weights `w` and adding the results up, each counted `a j` times, is adding
    up the states, so counted, and projecting the sum, if all the numbers are real. -/
theorem swap {ι κ : Type} [Fintype ι] [Fintype κ] (a : ι → EReal) (x : ι → κ → EReal) (w : κ → EReal)
    (ha : ∀ j, IsReal (a j)) (hx : ∀ j d, IsReal (x j d)) (hw : ∀ d, IsReal (w d)) :
    ∑ j, a j * ∑ d, x j d * w d = ∑ d, (∑ j, a j * x j d) * w d := by
  choose a' ea using ha
  choose x' ex using hx
  choose w' ew using hw
  simp only [ea, ex, ew, ← EReal.coe_mul, ← coe_sum]
  refine congrArg _ ?_
  simp only [Finset.mul_sum, Finset.sum_mul]
  rw [Finset.sum_comm]
  exact Finset.sum_congr rfl fun d _ => Finset.sum_congr rfl fun j _ => by ring

/-- A quotient and a remainder make a number below the product. -/
theorem split_lt {A B N : ℕ} (hN : A * B = N) (q : Fin A) (r : Fin B) : B * q.val + r.val < N := by
  have h1 : B * (q.val + 1) ≤ B * A := Nat.mul_le_mul_left B q.isLt
  have h2 : r.val < B := r.isLt
  rw [Nat.mul_add, Nat.mul_one, Nat.mul_comm B A, hN] at h1
  omega

/-- A sum over `0 … A B − 1` is the sum over the quotients by `B` and the remainders. -/
theorem sum_split {A B N : ℕ} (hN : A * B = N) (f : Fin N → EReal) :
    ∑ k, f k = ∑ q : Fin A, ∑ r : Fin B, f ⟨B * q.val + r.val, split_lt hN q r⟩ := by
  subst hN
  rw [← Fintype.sum_prod_type', ← Equiv.sum_comp (finProdFinEquiv (m := A) (n := B))]
  refine Finset.sum_congr rfl fun u _ => congrArg f (Fin.ext ?_)
  rw [finProdFinEquiv_apply_val]
  exact add_comm _ _

end Cert.Proof.Swap
-- ==== Proof.Equation.lean ====
/-
  The equation: what the kernel computes for a pedestrian is what the reference computes. The kernel goes through the 128
  rows of a grid point, four scenes, where the reference goes through the pedestrian's own scene; the rows of the other
  scenes fall into no cell. The kernel projects every neighbour before it adds up a cell, the reference adds up first;
  for real hidden states and weights the two orders agree.
-/
module

public import proofs.«01_k».proof.Proof.Array
public import proofs.«01_k».proof.Proof.Reference
public import proofs.«01_k».proof.Proof.Swap

@[expose] public section

noncomputable section

namespace Cert.Proof.Equation

open Cert.KernelIdeal Idealize.ShloMosaic Idealize.ShloMosaic.ValueIdx
open Cert.Proof.Prefix Cert.Proof.Block Cert.Proof.Cell Cert.Proof.Array Cert.Proof.Reference Cert.Proof.Swap
open scoped BigOperators

/-- The grid point that scene `s` belongs to. -/
abbrev tile (s : Fin 64) : Fin 16 := ⟨s.val / 4, by omega⟩

/-- The place of pedestrian `i` of scene `s` in its grid point. -/
abbrev place (s : Fin 64) (i : Fin 32) : Fin 128 := ⟨32 * (s.val % 4) + i.val, by omega⟩

/-- The row at this place is of scene `s`, -/
theorem scene_place (s : Fin 64) (i : Fin 32) : scene (row (tile s) (place s i)) = s :=
  Fin.ext (by show (128 * (s.val / 4) + (32 * (s.val % 4) + i.val)) / 32 = s.val; omega)

/-- and of pedestrian `i`. -/
theorem ped_place (s : Fin 64) (i : Fin 32) : ped (row (tile s) (place s i)) = i :=
  Fin.ext (by show (128 * (s.val / 4) + (32 * (s.val % 4) + i.val)) % 32 = i.val; omega)

/-- The word that marks a pair as none of a scene's is no cell's number. -/
theorem ind_none (g : ℕ) (hg : g < 64) : ind 4294967295#32 (BitVec.ofNat 32 g) = 0 := by
  refine if_neg fun e => ?_
  have := congrArg BitVec.toNat e
  rw [BitVec.toNat_ofNat, BitVec.toNat_ofNat, Nat.mod_eq_of_lt (by omega), Nat.mod_eq_of_lt (by omega)] at this
  omega

/-- The indicator that two pedestrians of a scene are the same. -/
theorem ind_ped (i j : Fin 32) : ind (BitVec.ofNat 32 i.val) (BitVec.ofNat 32 j.val) = if i = j then 1 else 0 := by
  refine if_congr ⟨fun e => Fin.ext ?_, fun e => by rw [e]⟩ rfl rfl
  have := congrArg BitVec.toNat e
  rw [BitVec.toNat_ofNat, BitVec.toNat_ofNat, Nat.mod_eq_of_lt (by omega), Nat.mod_eq_of_lt (by omega)] at this
  exact this

/-- One minus one is zero. -/
theorem one_sub_one : (1 : EReal) - 1 = 0 := by
  rw [show (1 : EReal) = ((1 : ℝ) : EReal) by norm_cast, ← EReal.coe_sub, sub_self, EReal.coe_zero]

/-- Two places of one scene: the kernel's indicator is the reference's. -/
theorem ind_same (p : S64x32x2.Idx → EReal) (s : Fin 64) (i j : Fin 32) (g : ℕ) (hg : g < 64) :
    ind (pair p (tile s) (place s i) (place s j)) (BitVec.ofNat 32 g) = hot p s i j g := by
  unfold pair hot
  rw [ind_ped, scene_place, scene_place, ped_place, ped_place]
  by_cases e : i = j
  · rw [if_neg (fun h => h.2 (by rw [e])), if_pos e, ind_none g hg, one_sub_one, mul_zero]
  · rw [if_pos, if_neg e, sub_zero, mul_one]
    · rfl
    · refine ⟨?_, fun h => e (Fin.ext ?_)⟩
      · show (32 * (s.val % 4) + i.val) / 32 = (32 * (s.val % 4) + j.val) / 32; omega
      · have : 32 * (s.val % 4) + i.val = 32 * (s.val % 4) + j.val := congrArg Fin.val h
        omega

/-- A place of another scene: the kernel's indicator is zero. -/
theorem ind_other (p : S64x32x2.Idx → EReal) (s : Fin 64) (i : Fin 32) (J : Fin 128) (hJ : J.val / 32 ≠ s.val % 4) (g : ℕ)
    (hg : g < 64) : ind (pair p (tile s) (place s i) J) (BitVec.ofNat 32 g) = 0 := by
  unfold pair
  rw [if_neg, ind_none g hg]
  intro h
  have : (32 * (s.val % 4) + i.val) / 32 = J.val / 32 := h.1
  omega

/-- A sum over the places of a grid point that is zero outside scene `s` is the sum over the scene's pedestrians. -/
theorem sum_scene (s : Fin 64) (f : Fin 128 → EReal) (hf : ∀ J, J.val / 32 ≠ s.val % 4 → f J = 0) :
    ∑ J, f J = ∑ j, f (place s j) := by
  rw [sum_split (show 4 * 32 = 128 by norm_num) f, Finset.sum_eq_single (⟨s.val % 4, by omega⟩ : Fin 4)]
  · intro q _ hq
    refine Finset.sum_eq_zero fun j _ => hf _ fun h => hq (Fin.ext ?_)
    have h' : (32 * q.val + j.val) / 32 = s.val % 4 := h
    show q.val = s.val % 4
    omega
  · exact fun h => absurd (Finset.mem_univ _) h

/-- The indicator is a real number, -/
theorem real_ind (a b : BitVec 32) : IsReal (ind a b) := by
  unfold ind
  split
  · exact ⟨1, by norm_cast⟩
  · exact ⟨0, by norm_cast⟩

/-- and so is the reference's. -/
theorem real_hot (p : S64x32x2.Idx → EReal) (s : Fin 64) (i j : Fin 32) (g : ℕ) : IsReal (hot p s i j g) := by
  unfold hot
  obtain ⟨u, hu⟩ := real_ind (cellOf p s i j) (BitVec.ofNat 32 g)
  obtain ⟨v, hv⟩ := real_ind (BitVec.ofNat 32 i.val) (BitVec.ofNat 32 j.val)
  exact ⟨u * (1 - v), by rw [hu, hv]; norm_cast⟩

/-- One cell's contribution, as the kernel and as the reference compute it. -/
theorem cell_eq (h : S64x32x128.Idx → EReal) (p : S64x32x2.Idx → EReal) (w : S128x8192.Idx → EReal)
    (hh : ∀ i, IsReal (h i)) (hw : ∀ i, IsReal (w i)) (s : Fin 64) (i : Fin 32) (o : Fin 128) (g : Fin 64) :
    ∑ J : Fin 128, ind (pair p (tile s) (place s i) J) (BitVec.ofNat 32 g.val) * proj h w (tile s) J o g
      = ∑ d : Fin 128, (∑ j : Fin 32, hot p s i j g.val * h (ix3 s j d)) * w (ix2 o ⟨128 * g.val + d.val, by omega⟩) := by
  rw [sum_scene s _ fun J hJ => by rw [ind_other p s i J hJ g.val g.isLt, zero_mul],
    ← swap (fun j => hot p s i j g.val) (fun j d => h (ix3 s j d)) (fun d : Fin 128 => w (ix2 o ⟨128 * g.val + d.val, by omega⟩))
      (fun j => real_hot p s i j g.val) (fun j d => hh _) (fun d => hw _)]
  refine Finset.sum_congr rfl fun j _ => ?_
  rw [ind_same p s i j g.val g.isLt]
  unfold proj
  rw [scene_place, ped_place]

/-- The kernel's value is the reference's. -/
theorem value_eq (h : S64x32x128.Idx → EReal) (p : S64x32x2.Idx → EReal) (w : S128x8192.Idx → EReal) (b : S128.Idx → EReal)
    (hh : ∀ i, IsReal (h i)) (hw : ∀ i, IsReal (w i)) (s : Fin 64) (i : Fin 32) (o : Fin 128) :
    value h p w b (tile s) (place s i) o = Cert.ReferenceIdeal.Read.val_main_v42 (F := Ideal) h p w b (ix3 s i o) := by
  rw [Reference.result_apply]
  unfold value
  refine congrArg (· + b (ix1 o)) ?_
  rw [sum_split (show 64 * 128 = 8192 by norm_num)]
  refine Finset.sum_congr rfl fun g _ => ?_
  rw [cell_eq h p w hh hw s i o g]
  refine Finset.sum_congr rfl fun d _ => ?_
  have h1 : (128 * g.val + d.val) / 128 = g.val := by omega
  have h2 : (128 * g.val + d.val) % 128 = d.val := by omega
  simp only [h1, h2]

end Cert.Proof.Equation
-- ==== Proof.Finite.lean ====
/-
  What the precondition says: every hidden state and every weight is a real number. It takes each from itself and asks
  for zero, which an infinity does not give.
-/
module

public import proofs.«01_k».proof.Proof.Gen.Pre_finite
public import proofs.«01_k».proof.Proof.Swap
public import Idealize.ShloMosaic.Lib.ReduceAll
public import Idealize.ShloMosaic.Lib.IdealHost

@[expose] public section

noncomputable section

namespace Cert.Proof.Finite

open Cert.Pre_finite Cert.Pre_finite.Facts Cert.Proof.Swap Idealize.ShloMosaic

/-- A comparison of a number less itself with zero that is true: the number is real. -/
theorem real_of_cmp {x : EReal} (h : (FloatOps.cmpf .oeq (FloatOps.subf (x : Ideal .f32) x : Ideal .f32)
    (FloatOps.ofBits .f32 0x00000000#32 : Ideal .f32)) = 1#1) : IsReal x := by
  have h' : BitVec.ofBool (decide (x - x = Ideal.ofBits .f32 0x00000000#32)) = 1#1 := h
  refine real_of_sub_self ?_
  by_contra hn
  have e0 : Ideal.ofBits .f32 0x00000000#32 = 0 := by simp [Ideal.ofBits, Ideal.ieee]
  rw [e0, decide_eq_false hn] at h'
  exact absurd h' (by decide)

/-- A conjunction of two bits that is true: both are. -/
theorem and_bits {a b : BitVec 1} (h : IntOp.andi a b = 1#1) : a = 1#1 ∧ b = 1#1 := by
  revert h a b
  decide

/-- Under the precondition the hidden states and the weights are real numbers. -/
theorem real [Cert.Pre_finite.Facts] (h : FVec Ideal S64x32x128 .f32) (p : FVec Ideal S64x32x2 .f32) (w : FVec Ideal S128x8192 .f32)
    (b : FVec Ideal S128 .f32) (e : Cert.Pre_finite.fn h p w b = fun _ => 1#1) : (∀ i, IsReal (h i)) ∧ ∀ i, IsReal (w i) := by
  have hs : Subsingleton S_.Idx := ⟨fun a b => funext fun x => x.elim0⟩
  obtain ⟨e1, e2⟩ := and_bits (congrFun e (Shape.Idx.first h_S_))
  refine ⟨fun i => real_of_cmp ?_, fun i => real_of_cmp ?_⟩
  · exact Host.reduce_andi_all _ _ reducesTo_S64x32x128_S_d0_1_2 h_S_ _ e1 i
  · exact Host.reduce_andi_all _ _ reducesTo_S128x8192_S_d0_1 h_S_ _ e2 i

end Cert.Proof.Finite
-- ==== Proof.lean ====
/-
  The proof of `Cert.Claim`. The kernel pools each pedestrian's neighbours into the 64 cells of a grid around the
  pedestrian and projects what it has pooled; the claim is that it computes what the plain formula computes, for real
  hidden states and weights. The mathematics stands in the modules of `Proof/`:

    Cell       the cell of a displacement, and the test that a pair of rows is a pair of neighbours
    Block      what one grid point computes, at an index
    Prefix     what the kernel's input arrays hold, in terms of the program's arguments
    Array      what the result holds after the run
    Reference  what the reference computes, at an index
    Swap       pooling before and after projecting agree over real numbers
    Equation   the kernel's value is the reference's
    Finite     what the precondition says

  This file puts the runs and the equation together.
-/
module

public import proofs.«01_k».proof.Defs
public import proofs.«01_k».proof.Proof.Gen.Kernel.Frame
public import proofs.«01_k».proof.Proof.Gen.ReferenceIdeal.Run
public import proofs.«01_k».proof.Proof.Equation
public import proofs.«01_k».proof.Proof.Finite
public import Idealize.ShloMosaic.Lib.Quiescent

@[expose] public section

noncomputable section

namespace Cert.Proof

open Idealize.ShloMosaic Idealize.ShloMosaic.ValueIdx Idealize.SL.Sem

/-- The kernel runs as printed. -/
theorem frame_kernel : Cert.quiescent_Kernel := fun m ρ _ => Cert.Kernel.Gen.frame m ρ

/-- Its idealization runs, -/
theorem frame_ideal : Cert.quiescent_KernelIdeal := fun m ρ _ => Cert.KernelIdeal.Gen.frame m ρ

/-- under the precondition as well. -/
theorem frame_ideal_finite : Cert.quiescent_KernelIdeal_pre_finite := fun m ρ _ => Cert.KernelIdeal.Gen.frame m ρ

/-- The reference runs: its run is read at the arguments, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- It runs under the precondition as well. -/
theorem frame_reference_finite : Cert.quiescent_ReferenceIdeal_pre_finite := fun m ρ _ => frame_reference m ρ trivial

/-- The results agree, element by element. -/
theorem result_eq (m : (ℓ : Loc Cert.KernelIdeal.nD Cert.KernelIdeal.τ Cert.KernelIdeal.sig) → Buf (Elt Ideal) ℓ)
    (hm : Cert.Pre_KernelIdeal_finite m) (c : Dev Cert.KernelIdeal.nD) :
    Cert.ReferenceIdeal.Read.val_main_v42 (F := Ideal) (Array.hidden m c) (Array.pos m c) (Array.weight m c) (Array.bias m c)
      = Array.result m c := by
  obtain ⟨hh, hw⟩ := Finite.real _ _ _ _ (hm c)
  funext z
  obtain ⟨s, i, o, rfl⟩ : ∃ (s : Fin 64) (i : Fin 32) (o : Fin 128), z = ix3 s i o := ⟨z 0, z 1, z 2, eq_ix3 z⟩
  rw [Array.result_apply]
  exact (Equation.value_eq _ _ _ _ hh hw s i o).symm

/-- For real hidden states and weights the kernel computes what the reference computes. -/
theorem algebraic : Cert.algebraic_KernelIdeal_ReferenceIdeal_pre_finite := by
  intro m ρ m' ρ' hm hagree
  refine ⟨fun c => Array.result m c, Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v42_eq ..).trans ?_
  rw [(hagree c).1, (hagree c).2.1, (hagree c).2.2.1, (hagree c).2.2.2]
  exact result_eq m hm c

/-- Every claim. -/
theorem claim : Cert.Claim := ⟨Cert.Kernel.Gen.facts, Cert.KernelIdeal.Gen.facts, Cert.ReferenceIdeal.Gen.facts, Cert.Pre_finite.Gen.facts,
  frame_kernel, frame_ideal, frame_ideal_finite, frame_reference, frame_reference_finite, trivial, algebraic⟩

end Cert.Proof

end
